-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x4096 : Shape := ⟨2, ![8192, 4096]⟩
abbrev S4096 : Shape := ⟨1, ![4096]⟩
abbrev S4096x4096 : Shape := ⟨2, ![4096, 4096]⟩
abbrev S_ : Shape := ⟨0, ![]⟩
abbrev S1x4096 : Shape := ⟨2, ![1, 4096]⟩
abbrev S1x1 : Shape := ⟨2, ![1, 1]⟩
abbrev S512x4096 : Shape := ⟨2, ![512, 4096]⟩
abbrev S128x4096 : Shape := ⟨2, ![128, 4096]⟩
abbrev S128 : Shape := ⟨1, ![128]⟩
abbrev S128x1 : Shape := ⟨2, ![128, 1]⟩

abbrev nBuf : Space → Nat
  | .hbm => 10
  | .vmem => 7
  | .smem => 2
  | _ => 0

abbrev bufTy : (tb : Table) → Fin (tcTables nBuf tb) → BufTy
  | .hbm, ⟨0, _⟩ => ⟨S8192x4096, .bf16⟩
  | .hbm, ⟨1, _⟩ => ⟨S4096, .bf16⟩
  | .hbm, ⟨2, _⟩ => ⟨S4096x4096, .fp8e4m3⟩
  | .hbm, ⟨3, _⟩ => ⟨S_, .f32⟩
  | .hbm, ⟨4, _⟩ => ⟨S_, .f32⟩
  | .hbm, ⟨5, _⟩ => ⟨S1x4096, .bf16⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S8192x4096, .bf16⟩
  | .local _ .vmem, ⟨0, _⟩ => ⟨S512x4096, .bf16⟩
  | .local _ .vmem, ⟨1, _⟩ => ⟨S512x4096, .bf16⟩
  | .local _ .vmem, ⟨2, _⟩ => ⟨S1x4096, .bf16⟩
  | .local _ .vmem, ⟨3, _⟩ => ⟨S4096x4096, .fp8e4m3⟩
  | .local _ .vmem, ⟨4, _⟩ => ⟨S512x4096, .bf16⟩
  | .local _ .vmem, ⟨5, _⟩ => ⟨S512x4096, .bf16⟩
  | .local _ .vmem, ⟨6, _⟩ => ⟨S512x4096, .fp8e4m3⟩
  | .local _ .smem, ⟨0, _⟩ => ⟨S1x1, .f32⟩
  | .local _ .smem, ⟨1, _⟩ => ⟨S1x1, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_scratch0 : Ref sig .tc := ⟨.vmem, 6, rfl⟩
abbrev cc0_stg3_0 : Ref sig .tc := ⟨.smem, 0, rfl⟩
abbrev cc0_stg4_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8192x4096 : Shape := ⟨2, ![8192, 4096]⟩
abbrev S4096 : Shape := ⟨1, ![4096]⟩
abbrev S4096x4096 : Shape := ⟨2, ![4096, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S1x1 : Shape := ⟨2, ![1, 1]⟩

abbrev nBuf : Space → Nat
  | .hbm => 37
  | .vmem => 4
  | .smem => 0
  | _ => 0

abbrev bufTy : (tb : Table) → Fin (tcTables nBuf tb) → BufTy
  | .hbm, ⟨0, _⟩ => ⟨S8192x4096, .bf16⟩
  | .hbm, ⟨1, _⟩ => ⟨S4096, .bf16⟩
  | .hbm, ⟨2, _⟩ => ⟨S4096x4096, .fp8e4m3⟩
  | .hbm, ⟨3, _⟩ => ⟨S_, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S8192x4096, .fp8e4m3⟩
  | .hbm, ⟨34, _⟩ => ⟨S_, .f32⟩
  | .hbm, ⟨35, _⟩ => ⟨S1x1, .f32⟩
  | .hbm, ⟨36, _⟩ => ⟨S8192x4096, .bf16⟩
  | .local _ .vmem, ⟨0, _⟩ => ⟨S8192x4096, .fp8e4m3⟩
  | .local _ .vmem, ⟨1, _⟩ => ⟨S4096x4096, .fp8e4m3⟩
  | .local _ .vmem, ⟨2, _⟩ => ⟨S1x1, .f32⟩
  | .local _ .vmem, ⟨3, _⟩ => ⟨S8192x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8192x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Spec.lean ====
/-
  The scalar mathematics of a fused RMS norm, quantisation and product, over the extended reals: a row of activations and
  the norm weights, the two ways of scaling and clamping an element (multiplied by the reciprocal of the input scale, or
  divided by the input scale), the entry of the product, and the equation between the two entries.
-/
module

public import Idealize.ShloMosaic.PureOps.Ideal
public import Idealize.ShloMosaic.Lib.Pointwise

@[expose] public section

noncomputable section

namespace Cert.RmsQuant

open Idealize.ShloMosaic

/-- The reciprocal root mean square of a row: the sum of the squares multiplied by 1/4096, plus a small constant,
    under the reciprocal square root. -/
def invRms (row : Fin 4096 → EReal) : EReal :=
  Ideal.rsqrt ((∑ k, row k * row k) * Ideal.ofBits .f32 0x39800000#32 + Ideal.ofBits .f32 0x3727C5AC#32)

/-- A number kept between -448 and 448. -/
def clamp (v : EReal) : EReal :=
  min (max v (Ideal.ofBits .f32 0xC3E00000#32)) (Ideal.ofBits .f32 0x43E00000#32)

/-- The quantised element as the kernel computes it: the reciprocal of the input scale is folded into the row's factor. -/
def quantMul (row nw : Fin 4096 → EReal) (s : EReal) (k : Fin 4096) : EReal :=
  clamp (row k * (invRms row * Ideal.div 1 s) * nw k)

/-- The quantised element as the reference computes it: the normalised element is divided by the input scale. -/
def quantDiv (row nw : Fin 4096 → EReal) (s : EReal) (k : Fin 4096) : EReal :=
  clamp (Ideal.div (row k * invRms row * nw k) s)

/-- The output scale: the input scale times the weight scale. -/
def outScale (s t : EReal) : EReal := s * t

/-- The entry of the product of a quantised row `q` and a weight row `w`, multiplied by the two scales `s` and `t`. -/
def entry (q w : Fin 4096 → EReal) (s t : EReal) : EReal := (∑ k, q k * w k) * outScale s t

/-- At an input scale other than zero the two quantised elements are equal: dividing by the scale is multiplying by its
    inverse, and the product is associative and commutative. -/
theorem quantMul_eq_quantDiv (row nw : Fin 4096 → EReal) (s : EReal) (hs : s ≠ 0) (k : Fin 4096) :
    quantMul row nw s k = quantDiv row nw s k := by
  unfold quantMul quantDiv Ideal.div
  rw [if_neg hs, if_neg hs, one_mul]
  congr 1
  rw [← mul_assoc, mul_assoc _ s⁻¹, mul_comm s⁻¹, ← mul_assoc]

/-- The two entries are equal at every input scale: at zero the quantised elements may differ, but the product is then
    multiplied by zero on both sides. -/
theorem entry_eq (row nw w : Fin 4096 → EReal) (s t : EReal) :
    entry (quantMul row nw s) w s t = entry (quantDiv row nw s) w s t := by
  by_cases hs : s = 0
  · subst hs
    unfold entry outScale
    rw [zero_mul, mul_zero, mul_zero]
  · rw [show quantMul row nw s = quantDiv row nw s from funext (quantMul_eq_quantDiv row nw s hs)]

/-- Dividing by the float 4096 is multiplying by the float 1/4096. -/
theorem div_4096 (x : EReal) :
    Ideal.div x (Ideal.ofBits .f32 0x45800000#32) = x * Ideal.ofBits .f32 0x39800000#32 := by
  have h1 : Ideal.ofBits .f32 0x45800000#32 = ((4096 : ℝ) : EReal) := by
    simp [Ideal.ofBits, Ideal.ieee, -EReal.coe_mul]; norm_num
  have h2 : Ideal.ofBits .f32 0x39800000#32 = (((1 : ℝ) / 4096 : ℝ) : EReal) := by
    simp [Ideal.ofBits, Ideal.ieee, -EReal.coe_mul]; norm_num
  rw [h1, h2, Ideal.div_coe (by norm_num)]

end Cert.RmsQuant

end
-- ==== Proof.Block.lean ====
/-
  What one block of the kernel's run holds. The scratch array of quantised activations is stored in four chunks of 128
  rows, each chunk the same function of its rows of the activations; read back whole, its row is the quantised row. The
  output block is the product of the scratch array and the weights, multiplied by the output scale.
-/
module

public import proofs.«01_k».proof.Proof.Gen.KernelIdeal.Value
public import proofs.«01_k».proof.Proof.Spec
public import Idealize.ShloMosaic.Lib.Pointwise
public import Idealize.ShloMosaic.Lib.Tactic

@[expose] public section

noncomputable section

namespace Cert.KernelIdeal.Block

open Cert.KernelIdeal Cert.KernelIdeal.Gen Cert.RmsQuant Idealize.ShloMosaic Idealize.ShloMosaic.TcCoe Idealize.SL.Sem

/-- The first chunk's element: the quantised element of its row. -/
theorem chunk0_apply (s : EReal) (nw : Vec Ideal S1x4096 .bf16) (x : Vec Ideal S128x4096 .bf16) (r : Fin 128) (k : Fin 4096) :
    k0_pay5 (F := Ideal) s nw x (ix2 r k) = quantMul (fun l => x (ix2 r l)) (fun l => nw (ix2 0 l)) s k := by
  pointwise [k0_pay5, k0_pay3, k0_pay4, quantMul, invRms, clamp]

/-- The second chunk's element: the quantised element of its row. -/
theorem chunk1_apply (s : EReal) (nw : Vec Ideal S1x4096 .bf16) (x : Vec Ideal S128x4096 .bf16) (r : Fin 128) (k : Fin 4096) :
    k0_pay8 (F := Ideal) (k0_pay3 s) (k0_pay4 nw) (k0_pay6 x) (k0_pay7 x) (ix2 r k)
      = quantMul (fun l => x (ix2 r l)) (fun l => nw (ix2 0 l)) s k := by
  pointwise [k0_pay8, k0_pay3, k0_pay4, k0_pay6, k0_pay7, quantMul, invRms, clamp]

/-- The third chunk's element: the quantised element of its row. -/
theorem chunk2_apply (s : EReal) (nw : Vec Ideal S1x4096 .bf16) (x : Vec Ideal S128x4096 .bf16) (r : Fin 128) (k : Fin 4096) :
    k0_pay9 (F := Ideal) (k0_pay3 s) (k0_pay4 nw) x (ix2 r k)
      = quantMul (fun l => x (ix2 r l)) (fun l => nw (ix2 0 l)) s k := by
  pointwise [k0_pay9, k0_pay3, k0_pay4, quantMul, invRms, clamp]

/-- The fourth chunk's element: the quantised element of its row. -/
theorem chunk3_apply (s : EReal) (nw : Vec Ideal S1x4096 .bf16) (x : Vec Ideal S128x4096 .bf16) (r : Fin 128) (k : Fin 4096) :
    k0_pay1 (F := Ideal) (k0_pay3 s) (k0_pay4 nw) (k0_pay10 x) (k0_pay11 x) (ix2 r k)
      = quantMul (fun l => x (ix2 r l)) (fun l => nw (ix2 0 l)) s k := by
  pointwise [k0_pay1, k0_pay3, k0_pay4, k0_pay10, k0_pay11, quantMul, invRms, clamp]

/-- The output block's element: the sum of products of a row of the scratch array and a weight row, times the scale. -/
theorem product_apply (q : Vec Ideal S512x4096 .fp8e4m3) (w : Vec Ideal S4096x4096 .fp8e4m3) (z : EReal) (r : Fin 512)
    (o : Fin 4096) :
    k0_pay2 (F := Ideal) q w z (ix2 r o) = (∑ k, q (ix2 r k) * w (ix2 o k)) * z := by
  pointwise [k0_pay2]

/-- The whole scratch array of quantised activations, as one function of the activations' block, the norm weights and
    the input scale. -/
def quantBlock (x : Vec Ideal S512x4096 .bf16) (nw : Vec Ideal S1x4096 .bf16) (s : EReal) : S512x4096.Idx → EReal :=
  fun j => quantMul (fun l => x (ix2 (j 0 : Fin 512) l)) (fun l => nw (ix2 0 l)) s (j 1 : Fin 4096)

/-- The offsets (0, 0) are zero at both axes. -/
theorem offsets_zero : (![0, 0] : Fin 2 → Nat) = fun _ => 0 := funext fun a => by fin_cases a <;> rfl

/-- A chunk of 128 rows whose elements are the quantised elements of its rows of the activations is the whole scratch
    array's chunk at those rows. -/
theorem chunk_eq (x : Vec Ideal S512x4096 .bf16) (nw : Vec Ideal S1x4096 .bf16) (s : EReal) (off : Nat)
    (inb : ∀ a, (![off, 0] : Fin 2 → Nat) a + S128x4096.size a ≤ S512x4096.size a) (p : S128x4096.Idx → EReal)
    (hp : ∀ (r : Fin 128) (k : Fin 4096), p (ix2 r k)
      = quantMul (fun l => View.ld x (Rect.unit (s := S512x4096) ![off, 0] S128x4096.size inb) (ix2 r l))
          (fun l => nw (ix2 0 l)) s k) (j : S128x4096.Idx) :
    p j = quantBlock x nw s ((Rect.unit (s := S512x4096) ![off, 0] S128x4096.size inb).emb j) := by
  obtain ⟨r, k, rfl⟩ : ∃ (r : Fin 128) (k : Fin 4096), j = ix2 r k := ⟨j 0, j 1, eq_ix2 j⟩
  rw [hp]
  have hcol : ((Rect.unit (s := S512x4096) ![off, 0] S128x4096.size inb).emb (ix2 r k) 1 : Fin 4096) = k :=
    Fin.ext (show 0 + 1 * k.val = k.val by omega)
  have hrow : ∀ l : Fin 4096, View.ld x (Rect.unit (s := S512x4096) ![off, 0] S128x4096.size inb) (ix2 r l)
      = x (ix2 ((Rect.unit (s := S512x4096) ![off, 0] S128x4096.size inb).emb (ix2 r k) 0 : Fin 512) l) := fun l =>
    congrArg x (Shape.idx_ext₂ (show off + 1 * r.val = off + 1 * r.val from rfl) (show 0 + 1 * l.val = l.val by omega))
  unfold quantBlock
  rw [hcol]
  simp only [hrow]

/-- Every index of the scratch array lies in the chunk of its row. -/
theorem chunk_covers (r : Fin 512) (k : Fin 4096) (off : Nat) (hlo : off ≤ r.val) (hhi : r.val < off + 128)
    (inb : ∀ a, (![off, 0] : Fin 2 → Nat) a + S128x4096.size a ≤ S512x4096.size a) :
    (ix2 r k : S512x4096.Idx) ∈ (Rect.unit (s := S512x4096) ![off, 0] S128x4096.size inb).set := by
  rw [Rect.mem_set_unit]
  intro a
  fin_cases a
  · exact ⟨hlo, hhi⟩
  · exact ⟨Nat.zero_le _, by have := k.isLt; show k.val < 0 + 4096; omega⟩

/-- What one grid point leaves in the output window, at an index: the product of the quantised rows of its block of
    activations and the weights, times the output scale. -/
theorem out_apply (c : Dev nD) (i : grid0.Coords) (arg1 : Memref sig .tc .vmem S512x4096 .bf16) (harg1 : arg1.IsWhole)
    (arg2 : Memref sig .tc .vmem S1x4096 .bf16) (harg2 : arg2.IsWhole)
    (arg3 : Memref sig .tc .vmem S4096x4096 .fp8e4m3) (harg3 : arg3.IsWhole)
    (arg4 : Memref sig .tc .smem S1x1 .f32) (harg4 : arg4.IsWhole)
    (arg5 : Memref sig .tc .smem S1x1 .f32) (harg5 : arg5.IsWhole)
    (arg6 : Memref sig .tc .vmem S512x4096 .bf16) (harg6 : arg6.IsWhole)
    (arg7 : Memref sig .tc .vmem S512x4096 .fp8e4m3) (harg7 : arg7.IsWhole)
    (x0 : Vec Ideal S512x4096 .bf16) (x1 : Vec Ideal S1x4096 .bf16) (x2 : Vec Ideal S4096x4096 .fp8e4m3)
    (x3 x4 : Vec Ideal S1x1 .f32) (r : Fin 512) (o : Fin 4096) :
    out0_A_5 (F := Ideal) c i arg1 harg1 arg2 harg2 arg3 harg3 arg4 harg4 arg5 harg5 arg6 harg6 arg7 harg7 x0 x1 x2 x3 x4 (ix2 r o)
      = (∑ k, quantMul (fun l => x0 (ix2 r l)) (fun l => x1 (ix2 0 l)) (x3 (ix2 0 0)) k * x2 (ix2 o k)) * x4 (ix2 0 0) := by
  unfold out0_A_5
  rw [View.read_writes_eq_canon _ _ _ (cover0_A_5 c i arg1 harg1 arg2 harg2 arg3 harg3 arg4 harg4 arg5 harg5 arg6 harg6
    arg7 harg7 x0 x1 x2 x3 x4)]
  unfold kernelRun0_A
  dsimp only
  sl_unfold_words
  rw [View.canon_unit_zero (S := S512x4096) offsets_zero]
  simp only [View.readAt_eq_ld, harg1.read_unread, harg2.read_unread, harg3.read_unread, harg4.read_unread,
    harg5.read_unread]
  rw [View.readCov_eq_canon', View.ld_unit_zero (S := S4096x4096) offsets_zero,
    View.ld_unit_zero (S := S1x4096) offsets_zero, View.ld_unit_zero (S := S1x1) offsets_zero,
    View.ld_unit_zero (S := S1x1) offsets_zero, product_apply]
  rw [show ∀ h, (Shape.Idx.first h : S1x1.Idx) = ix2 0 0 from fun h =>
    Shape.idx_ext₂ (Nat.lt_one_iff.mp (Fin.isLt _)) (Nat.lt_one_iff.mp (Fin.isLt _))]
  refine congrArg (· * x4 (ix2 0 0)) (Finset.sum_congr rfl fun k _ => congrArg (· * x2 (ix2 o k)) ?_)
  rw [show (Rect.unit (s := S512x4096) ![0, 0] S512x4096.size inb_S512x4096_S512x4096_0_0).idx (ix2 r k) = ix2 r k from
    Shape.idx_ext₂ (show 0 + 1 * r.val = r.val by omega) (show 0 + 1 * k.val = k.val by omega)]
  refine (View.canon_apply_of_pieces (quantBlock x0 x1 (x3 (ix2 0 0))) _ ?_ (ix2 r k) ?_).trans rfl
  · intro p hp
    simp only [List.mem_cons, List.not_mem_nil, or_false] at hp
    rcases hp with rfl | rfl | rfl | rfl
    · exact chunk_eq x0 x1 _ 384 _ _ (chunk3_apply _ _ _)
    · exact chunk_eq x0 x1 _ 256 _ _ (chunk2_apply _ _ _)
    · exact chunk_eq x0 x1 _ 128 _ _ (chunk1_apply _ _ _)
    · exact chunk_eq x0 x1 _ 0 _ _ (chunk0_apply _ _ _)
  · by_cases h3 : 384 ≤ r.val
    · exact ⟨_, .head _, chunk_covers r k 384 h3 (by omega) inb_S512x4096_S128x4096_384_0⟩
    · by_cases h2 : 256 ≤ r.val
      · exact ⟨_, .tail _ (.head _), chunk_covers r k 256 h2 (by omega) inb_S512x4096_S128x4096_256_0⟩
      · by_cases h1 : 128 ≤ r.val
        · exact ⟨_, .tail _ (.tail _ (.head _)), chunk_covers r k 128 h1 (by omega) inb_S512x4096_S128x4096_128_0⟩
        · exact ⟨_, .tail _ (.tail _ (.tail _ (.head _))), chunk_covers r k 0 (by omega) (by omega) inb_S512x4096_S128x4096_0_0⟩

end Cert.KernelIdeal.Block

end
-- ==== Proof.KernelValue.lean ====
/-
  What the kernel's result array holds after the run. Each grid point's windows are read as parts of the arguments; what a
  point writes back is its block of one function of the arguments; the sixteen blocks cover the array.
-/
module

public import proofs.«01_k».proof.Proof.Block
public import Idealize.ShloMosaic.Lib.Claim

@[expose] public section

noncomputable section

namespace Cert.KernelIdeal.Whole

open Cert.KernelIdeal Cert.KernelIdeal.Gen Cert.RmsQuant Idealize.ShloMosaic Idealize.ShloMosaic.TcCoe Idealize.SL.Sem

variable (m : (ℓ : Loc nD τ sig) → Buf (Elt Ideal) ℓ) (ρ : Dev nD → PrngReg)

/-- The kernel's result at an index: the entry of the product of the quantised row of the activations and the weight row,
    with the input scale and the weight scale. -/
def result (c : Dev nD) : Buf (Elt Ideal) ((c : Thread nD τ).loc main_v4) := fun j =>
  entry (quantMul (fun l => m ((c : Thread nD τ).loc main_arg0) (ix2 (j 0 : Fin 8192) l))
      (fun l => m ((c : Thread nD τ).loc main_arg1) (ix1 l)) (m ((c : Thread nD τ).loc main_arg3) ix0))
    (fun k => m ((c : Thread nD τ).loc main_arg2) (ix2 (j 1 : Fin 4096) k))
    (m ((c : Thread nD τ).loc main_arg3) ix0) (m ((c : Thread nD τ).loc main_arg4) ix0)

/-- The row of weights for the norm, as the host's reshape leaves it. -/
theorem V_norm (c : Dev nD) (l : Fin 4096) :
    V m c main_v0 (ix2 0 l) = m ((c : Thread nD τ).loc main_arg1) (ix1 l) := by
  entry_read
  pointwise

/-- The input scale, as the host's reshape leaves it. -/
theorem V_scale (c : Dev nD) : V m c main_v1 (ix2 0 0) = m ((c : Thread nD τ).loc main_arg3) ix0 := by
  entry_read
  pointwise

/-- The output scale: the product of the input scale and the weight scale. -/
theorem V_outScale (c : Dev nD) : V m c main_v3 (ix2 0 0)
    = outScale (m ((c : Thread nD τ).loc main_arg3) ix0) (m ((c : Thread nD τ).loc main_arg4) ix0) := by
  entry_read
  pointwise [outScale]

/-- The block index of the activations and of the result at a grid point is the point's number, in the first column. -/
theorem index_rows (t : Fin cfg0.N) : (win0_0.index t 0 = t.val ∧ win0_0.index t 1 = 0)
    ∧ win0_5.index t 0 = t.val ∧ win0_5.index t 1 = 0 :=
  (by decide +kernel : ∀ t : Fin grid0.N, (win0_0.index t 0 = t.val ∧ win0_0.index t 1 = 0)
    ∧ win0_5.index t 0 = t.val ∧ win0_5.index t 1 = 0) t

/-- The other inputs are read whole: their block index is (0, 0) at every grid point. -/
theorem index_whole (t : Fin cfg0.N) : (win0_1.index t 0 = 0 ∧ win0_1.index t 1 = 0)
    ∧ (win0_2.index t 0 = 0 ∧ win0_2.index t 1 = 0) ∧ (win0_3.index t 0 = 0 ∧ win0_3.index t 1 = 0)
    ∧ win0_4.index t 0 = 0 ∧ win0_4.index t 1 = 0 :=
  (by decide +kernel : ∀ t : Fin grid0.N, (win0_1.index t 0 = 0 ∧ win0_1.index t 1 = 0)
    ∧ (win0_2.index t 0 = 0 ∧ win0_2.index t 1 = 0) ∧ (win0_3.index t 0 = 0 ∧ win0_3.index t 1 = 0)
    ∧ win0_4.index t 0 = 0 ∧ win0_4.index t 1 = 0) t

/-- Row `r` of the activations' block at point `t` is row `512 t + r` of the argument. -/
theorem block_x (c : Dev nD) (t : Fin cfg0.N) (r : Fin 512) (l : Fin 4096) (R : Fin 8192) (hR : R.val = t.val * 512 + r.val) :
    (iblk m c 0 t : Vec Ideal S512x4096 .bf16) (ix2 r l) = m ((c : Thread nD τ).loc main_arg0) (ix2 R l) := by
  rw [← V_main_arg0 m c]
  unfold iblk
  rw [View.read_apply]
  refine congrArg (V m c main_arg0) (Shape.idx_ext₂ ?_ ?_)
  · show win0_0.index t 0 * 512 + 1 * r.val = R.val
    rw [(index_rows t).1.1]; omega
  · show win0_0.index t 1 * 4096 + 1 * l.val = l.val
    rw [(index_rows t).1.2]; omega

/-- The norm weights' block at every point is the whole row of norm weights. -/
theorem block_nw (c : Dev nD) (t : Fin cfg0.N) (l : Fin 4096) :
    (iblk m c 1 t : Vec Ideal S1x4096 .bf16) (ix2 0 l) = m ((c : Thread nD τ).loc main_arg1) (ix1 l) := by
  rw [← V_norm m c l]
  unfold iblk
  rw [View.read_apply]
  refine congrArg (V m c main_v0) (Shape.idx_ext₂ ?_ ?_)
  · show win0_1.index t 0 * 1 + 1 * 0 = 0
    rw [(index_whole t).1.1]
  · show win0_1.index t 1 * 4096 + 1 * l.val = l.val
    rw [(index_whole t).1.2]; omega

/-- The weights' block at every point is the whole weight array. -/
theorem block_w (c : Dev nD) (t : Fin cfg0.N) (o k : Fin 4096) :
    (iblk m c 2 t : Vec Ideal S4096x4096 .fp8e4m3) (ix2 o k) = m ((c : Thread nD τ).loc main_arg2) (ix2 o k) := by
  rw [← V_main_arg2 m c]
  unfold iblk
  rw [View.read_apply]
  refine congrArg (V m c main_arg2) (Shape.idx_ext₂ ?_ ?_)
  · show win0_2.index t 0 * 4096 + 1 * o.val = o.val
    rw [(index_whole t).2.1.1]; omega
  · show win0_2.index t 1 * 4096 + 1 * k.val = k.val
    rw [(index_whole t).2.1.2]; omega

/-- The input scale's block at every point is the input scale. -/
theorem block_s (c : Dev nD) (t : Fin cfg0.N) :
    (iblk m c 3 t : Vec Ideal S1x1 .f32) (ix2 0 0) = m ((c : Thread nD τ).loc main_arg3) ix0 := by
  rw [← V_scale m c]
  unfold iblk
  rw [View.read_apply]
  refine congrArg (V m c main_v1) (Shape.idx_ext₂ ?_ ?_)
  · show win0_3.index t 0 * 1 + 1 * 0 = 0
    rw [(index_whole t).2.2.1.1]
  · show win0_3.index t 1 * 1 + 1 * 0 = 0
    rw [(index_whole t).2.2.1.2]

/-- The output scale's block at every point is the product of the two scales. -/
theorem block_out (c : Dev nD) (t : Fin cfg0.N) :
    (iblk m c 4 t : Vec Ideal S1x1 .f32) (ix2 0 0)
      = outScale (m ((c : Thread nD τ).loc main_arg3) ix0) (m ((c : Thread nD τ).loc main_arg4) ix0) := by
  rw [← V_outScale m c]
  unfold iblk
  rw [View.read_apply]
  refine congrArg (V m c main_v3) (Shape.idx_ext₂ ?_ ?_)
  · show win0_4.index t 0 * 1 + 1 * 0 = 0
    rw [(index_whole t).2.2.2.1]
  · show win0_4.index t 1 * 1 + 1 * 0 = 0
    rw [(index_whole t).2.2.2.2]

/-- What a grid point writes back is its block of the result. -/
theorem flushed_eq (c : Dev nD) (t : Fin cfg0.N) :
    (dats m 0 c).flushed 5 t = ((cfg0.win 5).blk t).view.read (Elt Ideal) (result m c) := by
  rw [Value.flushed5_A]
  funext j
  obtain ⟨r, o, rfl⟩ : ∃ (r : Fin 512) (o : Fin 4096), j = ix2 r o := ⟨j 0, j 1, eq_ix2 j⟩
  rw [View.read_apply]
  have ht : t.val < 16 := t.isLt.trans_le N_0.le
  have hr := r.isLt
  have hidx : (((cfg0.win 5).blk t).view.emb (ix2 r o) : S8192x4096.Idx)
      = ix2 (⟨t.val * 512 + r.val, by omega⟩ : Fin 8192) o := by
    refine Shape.idx_ext₂ ?_ ?_
    · show win0_5.index t 0 * 512 + 1 * r.val = t.val * 512 + r.val
      rw [(index_rows t).2.1]; omega
    · show win0_5.index t 1 * 4096 + 1 * o.val = o.val
      rw [(index_rows t).2.2]; omega
  refine (Block.out_apply c (grid0.coords t) _ _ _ _ _ _ _ _ _ _ _ _ _ _ _ _ _ _ _ r o).trans ?_
  rw [block_out, block_s]
  simp only [block_nw, block_w, block_x m c t r _ ⟨t.val * 512 + r.val, by omega⟩ rfl]
  exact (congrArg (result m c) hidx).symm

/-- The result array after the run. -/
theorem final (c : Dev nD) : (dats m 0 c).arrAt 5 cfg0.N = result m c :=
  (dats m 0 c).arrAt_eq_of_cover 5 (result m c) (fun t _ => flushed_eq m c t) fun i => by
    have h0 : (i 0 : Nat) < 8192 := (i 0).isLt
    have h1 : (i 1 : Nat) < 4096 := (i 1).isLt
    refine ⟨⟨(i 0 : Nat) / 512, by rw [show cfg0.N = 16 from N_0]; omega⟩, flush0_5 _, ?_⟩
    generalize ht : (⟨(i 0 : Nat) / 512, _⟩ : Fin cfg0.N) = t
    have htv : t.val = (i 0 : Nat) / 512 := by rw [← ht]
    show i ∈ ((View.whole main_v4).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [(index_rows t).2.1]; omega
    | ⟨1, _⟩ =>
      show win0_5.index t 1 * 4096 ≤ (i 1 : Nat) ∧ (i 1 : Nat) < win0_5.index t 1 * 4096 + 4096
      rw [(index_rows t).2.2]; omega

/-- The kernel's run: the result array holds the result, and the arguments are unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.KernelIdeal.Whole

end
-- ==== Proof.ReferenceValue.lean ====
/-
  What the reference's result array holds after the run. The host's operations leave the quantised activations and the
  output scale; the one grid point of the product reads them and the weights whole and writes the whole result.
-/
module

public import proofs.«01_k».proof.Proof.Gen.ReferenceIdeal.Value
public import proofs.«01_k».proof.Proof.Spec
public import Idealize.ShloMosaic.Lib.Pointwise
public import Idealize.ShloMosaic.Lib.Claim
public import Idealize.ShloMosaic.Lib.StableHlo.ReadAt

@[expose] public section

noncomputable section

namespace Cert.ReferenceIdeal.Whole

open Cert.ReferenceIdeal Cert.ReferenceIdeal.Gen Cert.RmsQuant Idealize.ShloMosaic Idealize.ShloMosaic.TcCoe Idealize.SL.Sem

variable (m : (ℓ : Loc nD τ sig) → Buf (Elt Ideal) ℓ) (ρ : Dev nD → PrngReg)

/-- The reference's result at an index: the entry of the product of the quantised row of the activations and the weight
    row, with the input scale and the weight scale. -/
def result (c : Dev nD) : Buf (Elt Ideal) ((c : Thread nD τ).loc main_v21) := fun j =>
  entry (quantDiv (fun l => m ((c : Thread nD τ).loc main_arg0) (ix2 (j 0 : Fin 8192) l))
      (fun l => m ((c : Thread nD τ).loc main_arg1) (ix1 l)) (m ((c : Thread nD τ).loc main_arg3) ix0))
    (fun k => m ((c : Thread nD τ).loc main_arg2) (ix2 (j 1 : Fin 4096) k))
    (m ((c : Thread nD τ).loc main_arg3) ix0) (m ((c : Thread nD τ).loc main_arg4) ix0)

/-- The product's element: the sum of products of a quantised row and a weight row, times the scale. -/
theorem product_apply (q : Vec Ideal S8192x4096 .fp8e4m3) (w : Vec Ideal S4096x4096 .fp8e4m3) (z : Vec Ideal S1x1 .f32)
    (r : Fin 8192) (o : Fin 4096) :
    k0_pay1 (F := Ideal) q w z (ix2 r o) = (∑ k, q (ix2 r k) * w (ix2 o k)) * z (ix2 0 0) := by
  pointwise [k0_pay1]

/-- The quantised activations that the host leaves: each the normalised element divided by the input scale, clamped. -/
theorem V_quant (c : Dev nD) (r : Fin 8192) (k : Fin 4096) : V m c main_v18 (ix2 r k)
    = quantDiv (fun l => m ((c : Thread nD τ).loc main_arg0) (ix2 r l))
      (fun l => m ((c : Thread nD τ).loc main_arg1) (ix1 l)) (m ((c : Thread nD τ).loc main_arg3) ix0) k := by
  unfold V
  simp only [List.flatten_cons, List.flatten_nil, List.append_nil, List.cons_append, List.nil_append]
  after_reads_at
  rw [div_4096, min_comm, max_comm]
  rfl

/-- The output scale that the host leaves: the product of the two scales. -/
theorem V_outScale (c : Dev nD) : V m c main_v20 (ix2 0 0)
    = outScale (m ((c : Thread nD τ).loc main_arg3) ix0) (m ((c : Thread nD τ).loc main_arg4) ix0) := by
  unfold V
  simp only [List.flatten_cons, List.flatten_nil, List.append_nil, List.cons_append, List.nil_append]
  after_reads_at
  rfl

/-- The one grid point. -/
def point : Fin cfg0.N := ⟨0, by decide⟩

/-- The offsets (0, 0) are zero at both axes. -/
theorem offsets_zero : (![0, 0] : Fin 2 → Nat) = fun _ => 0 := funext fun a => by fin_cases a <;> rfl

/-- The block index of every window at the one grid point is (0, 0). -/
theorem index_whole : ((win0_0.index point 0 = 0 ∧ win0_0.index point 1 = 0)
    ∧ win0_1.index point 0 = 0 ∧ win0_1.index point 1 = 0)
    ∧ (win0_2.index point 0 = 0 ∧ win0_2.index point 1 = 0) ∧ win0_3.index point 0 = 0 ∧ win0_3.index point 1 = 0 := by
  decide +kernel

/-- The quantised activations' block is the whole array that the host leaves. -/
theorem block_q (c : Dev nD) (r : Fin 8192) (k : Fin 4096) :
    (iblk m c 0 point : Vec Ideal S8192x4096 .fp8e4m3) (ix2 r k)
      = quantDiv (fun l => m ((c : Thread nD τ).loc main_arg0) (ix2 r l))
        (fun l => m ((c : Thread nD τ).loc main_arg1) (ix1 l)) (m ((c : Thread nD τ).loc main_arg3) ix0) k := by
  rw [← V_quant m c r k]
  unfold iblk
  rw [View.read_apply]
  refine congrArg (V m c main_v18) (Shape.idx_ext₂ ?_ ?_)
  · show win0_0.index point 0 * 8192 + 1 * r.val = r.val
    rw [index_whole.1.1.1]; omega
  · show win0_0.index point 1 * 4096 + 1 * k.val = k.val
    rw [index_whole.1.1.2]; omega

/-- The weights' block is the whole weight array. -/
theorem block_w (c : Dev nD) (o k : Fin 4096) :
    (iblk m c 1 point : Vec Ideal S4096x4096 .fp8e4m3) (ix2 o k) = m ((c : Thread nD τ).loc main_arg2) (ix2 o k) := by
  rw [← V_main_arg2 m c]
  unfold iblk
  rw [View.read_apply]
  refine congrArg (V m c main_arg2) (Shape.idx_ext₂ ?_ ?_)
  · show win0_1.index point 0 * 4096 + 1 * o.val = o.val
    rw [index_whole.1.2.1]; omega
  · show win0_1.index point 1 * 4096 + 1 * k.val = k.val
    rw [index_whole.1.2.2]; omega

/-- The output scale's block is the product of the two scales. -/
theorem block_out (c : Dev nD) : (iblk m c 2 point : Vec Ideal S1x1 .f32) (ix2 0 0)
    = outScale (m ((c : Thread nD τ).loc main_arg3) ix0) (m ((c : Thread nD τ).loc main_arg4) ix0) := by
  rw [← V_outScale m c]
  unfold iblk
  rw [View.read_apply]
  refine congrArg (V m c main_v20) (Shape.idx_ext₂ ?_ ?_)
  · show win0_2.index point 0 * 1 + 1 * 0 = 0
    rw [index_whole.2.1.1]
  · show win0_2.index point 1 * 1 + 1 * 0 = 0
    rw [index_whole.2.1.2]

/-- Every point is the one point. -/
theorem eq_point (t : Fin cfg0.N) : t = point :=
  Fin.ext (Nat.lt_one_iff.mp (t.isLt.trans_le (show cfg0.N ≤ 1 by decide)))

/-- What the grid point leaves in the output window: the product of what it reads. -/
theorem out_eq (x0 : Vec Ideal S8192x4096 .fp8e4m3) (x1 : Vec Ideal S4096x4096 .fp8e4m3) (x2 : Vec Ideal S1x1 .f32) :
    out0_3 (F := Ideal) x0 x1 x2 = k0_pay1 x0 x1 x2 := by
  unfold out0_3
  rw [View.canon_unit_zero (S := S8192x4096) offsets_zero, View.ld_unit_zero (S := S8192x4096) offsets_zero,
    View.ld_unit_zero (S := S4096x4096) offsets_zero, View.ld_unit_zero (S := S1x1) offsets_zero]

/-- What the grid point writes back is the whole result. -/
theorem flushed_eq (c : Dev nD) (t : Fin cfg0.N) :
    (dats m 0 c).flushed 3 t = ((cfg0.win 3).blk t).view.read (Elt Ideal) (result m c) := by
  obtain rfl := eq_point t
  rw [Value.flushed3, out_eq]
  funext j
  obtain ⟨r, o, rfl⟩ : ∃ (r : Fin 8192) (o : Fin 4096), j = ix2 r o := ⟨j 0, j 1, eq_ix2 j⟩
  rw [View.read_apply]
  have hidx : (((cfg0.win 3).blk point).view.emb (ix2 r o) : S8192x4096.Idx) = ix2 r o := by
    refine Shape.idx_ext₂ ?_ ?_
    · show win0_3.index point 0 * 8192 + 1 * r.val = r.val
      rw [index_whole.2.2.1]; omega
    · show win0_3.index point 1 * 4096 + 1 * o.val = o.val
      rw [index_whole.2.2.2]; omega
  refine (product_apply _ _ _ r o).trans ?_
  rw [block_out]
  simp only [block_q, block_w]
  exact (congrArg (result m c) hidx).symm

/-- The result array after the run. -/
theorem final (c : Dev nD) : (dats m 0 c).arrAt 3 cfg0.N = result m c :=
  (dats m 0 c).arrAt_eq_of_cover 3 (result m c) (fun t _ => flushed_eq m c t) fun i => by
    have h0 : (i 0 : Nat) < 8192 := (i 0).isLt
    have h1 : (i 1 : Nat) < 4096 := (i 1).isLt
    refine ⟨point, by decide +kernel, ?_⟩
    show i ∈ ((View.whole main_v21).slice (win0_3.rect point)).set
    rw [View.set_slice_whole, Rect.mem_set_unit]
    intro a
    match a with
    | ⟨0, _⟩ =>
      show win0_3.index point 0 * 8192 ≤ (i 0 : Nat) ∧ (i 0 : Nat) < win0_3.index point 0 * 8192 + 8192
      rw [index_whole.2.2.1]; omega
    | ⟨1, _⟩ =>
      show win0_3.index point 1 * 4096 ≤ (i 1 : Nat) ∧ (i 1 : Nat) < win0_3.index point 1 * 4096 + 4096
      rw [index_whole.2.2.2]; omega

/-- The reference's run: the result array holds the result, and the arguments are unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.ReferenceIdeal.Whole

end
-- ==== Proof.Equation.lean ====
/-
  The equation between the two programs: from memories that agree on the arguments, the kernel's result array and the
  reference's result array are the same function of the arguments.
-/
module

public import proofs.«01_k».proof.Defs
public import proofs.«01_k».proof.Proof.KernelValue
public import proofs.«01_k».proof.Proof.ReferenceValue

@[expose] public section

noncomputable section

namespace Cert.Proof

open Idealize.ShloMosaic Idealize.SL.Sem Cert.RmsQuant

/-- When the two memories agree on the five arguments of a device, the reference's result is the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    Cert.ReferenceIdeal.Whole.result m' c = Cert.KernelIdeal.Whole.result m c := by
  funext j
  unfold Cert.ReferenceIdeal.Whole.result
  rw [h0, h1, h2, h3, h4]
  exact (entry_eq _ _ _ _ _).symm

/-- The kernel's idealization and the reference's, from memories that agree on the arguments, both run and end with the
    same result array and unchanged arguments. -/
theorem algebraic : Cert.algebraic_KernelIdeal_ReferenceIdeal := fun m g m' g' _ hagree =>
  ⟨Cert.KernelIdeal.Whole.result m, Cert.KernelIdeal.Whole.run m g,
    (θ_run _ _ _).mono (fun _ h c => ⟨(h c).1.trans (result_eq m m' c (hagree c).1 (hagree c).2.1 (hagree c).2.2.1
      (hagree c).2.2.2.1 (hagree c).2.2.2.2), (h c).2⟩) (Cert.ReferenceIdeal.Whole.run m' g')⟩

end Cert.Proof

end
-- ==== Proof.lean ====
/-
  The certificate's claim, assembled: the three programs run to the end with their arguments unchanged and every semaphore
  at zero (the generated frames), the idealization rewrites nothing, and the kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of the certificate: the three frames, the idealization of the kernel, and the equality of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
